-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩

abbrev nBuf : Space → Nat
  | .hbm => 12
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .bf16⟩
  | .hbm, ⟨10, _⟩ => ⟨S10000x10000, .i4⟩
  | .hbm, ⟨11, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S128x128, .f32⟩
  | .local _ .vmem, ⟨8, _⟩ => ⟨S400x128, .bf16⟩
  | .local _ .vmem, ⟨9, _⟩ => ⟨S400x128, .bf16⟩
  | .local _ .vmem, ⟨10, _⟩ => ⟨S400x10000, .i4⟩
  | .local _ .vmem, ⟨11, _⟩ => ⟨S400x10000, .i4⟩
  | .local _ .vmem, ⟨12, _⟩ => ⟨S1000x10000, .i4⟩
  | .local _ .vmem, ⟨13, _⟩ => ⟨S1000x10000, .i4⟩
  | .local _ .vmem, ⟨14, _⟩ => ⟨S10000x128, .bf16⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .i4 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .i4 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S10000x10000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10000x10000, .f32⟩
  | .hbm, ⟨23, _⟩ => ⟨S10000x10000, .f32⟩
  | .hbm, ⟨24, _⟩ => ⟨S_, .f32⟩
  | .hbm, ⟨25, _⟩ => ⟨S10000x10000, .f32⟩
  | .hbm, ⟨26, _⟩ => ⟨S10000x10000, .f32⟩
  | .hbm, ⟨27, _⟩ => ⟨S_, .f32⟩
  | .hbm, ⟨28, _⟩ => ⟨S10000x10000, .f32⟩
  | .hbm, ⟨29, _⟩ => ⟨S10000x10000, .f32⟩
  | .hbm, ⟨30, _⟩ => ⟨S_, .f32⟩
  | .hbm, ⟨31, _⟩ => ⟨S10000x10000, .f32⟩
  | .hbm, ⟨32, _⟩ => ⟨S10000x10000, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Proof.Held.lean ====
/-
  The kernel's run with its result kept: from any memory, every run of the three regions ends with the result array at
  what the last region's write-backs leave, and the argument arrays as they were.
-/
module

public import proofs.«01_k».proof.Proof.Gen.KernelIdeal.Frame

@[expose] public section

set_option maxRecDepth 16384

noncomputable section

namespace Cert.KernelIdeal.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

set_option backward.isDefEq.respectTransparency.types false in
/-- Every run of the kernel ends with the result array at the contents after the last region (`W4`), and with each
    argument array unchanged. The launch is set up as for the generated frame. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Held

end
-- ==== Proof.Codes.lean ====
/-
  The arithmetic of the four-bit codes, on the extended reals, with no program in sight: the code of an entry is a natural
  number at most 15 whatever the entry is, it survives being stored in four bits, and a product with the midpoints
  `(q + 1/2) / 16` splits into a product with the codes and a column sum.
-/
module

public import Idealize.ShloMosaic.PureOps.Ideal
public import Idealize.ShloMosaic.Lib.IdealHost
public import Mathlib.Data.EReal.Operations

@[expose] public section

noncomputable section

namespace Cert.Codes

open Idealize.ShloMosaic

/-! ## The constants the two programs print -/

/-- The word `0x41800000` is sixteen. -/
theorem word_sixteen : Ideal.ofBits .f32 0x41800000#32 = ((16 : ℝ) : EReal) := by
  simp [Ideal.ofBits, Ideal.ieee, -EReal.coe_mul]; norm_num

/-- The word `0x41700000` is fifteen. -/
theorem word_fifteen : Ideal.ofBits .f32 0x41700000#32 = ((15 : ℝ) : EReal) := by
  simp [Ideal.ofBits, Ideal.ieee, -EReal.coe_mul]; norm_num

/-- The word `0x3F000000` is one half. -/
theorem word_half : Ideal.ofBits .f32 0x3F000000#32 = ((1 / 2 : ℝ) : EReal) := by
  simp [Ideal.ofBits, Ideal.ieee, -EReal.coe_mul]; norm_num

/-- The word `0x3D800000` is one sixteenth. -/
theorem word_sixteenth : Ideal.ofBits .f32 0x3D800000#32 = ((1 / 16 : ℝ) : EReal) := by
  simp [Ideal.ofBits, Ideal.ieee, -EReal.coe_mul]; norm_num

/-- The word `0x3D000000` is one thirty-second. -/
theorem word_thirtysecond : Ideal.ofBits .f32 0x3D000000#32 = ((1 / 32 : ℝ) : EReal) := by
  simp [Ideal.ofBits, Ideal.ieee, -EReal.coe_mul]; norm_num

/-! ## The code of an entry -/

/-- The code of an entry: the number of its sixteenth of [0, 1], clipped to 0, 1, …, 15. -/
def code (a : EReal) : EReal :=
  min ((15 : ℝ) : EReal) (max 0 (Ideal.liftRound Int.floor (a * ((16 : ℝ) : EReal))))

/-- Clipping a rounded-down extended real to [0, 15] leaves a natural number at most 15, at the infinities too. -/
theorem clip_nat (x : EReal) :
    ∃ n : ℕ, n ≤ 15 ∧ min ((15 : ℝ) : EReal) (max 0 (Ideal.liftRound Int.floor x)) = ((n : ℝ) : EReal) := by
  induction x using EReal.rec with
  | bot =>
    refine ⟨0, by omega, ?_⟩
    rw [Ideal.liftRound_bot, max_eq_left bot_le, min_eq_right (EReal.coe_nonneg.mpr (by norm_num))]
    simp
  | top =>
    refine ⟨15, le_rfl, ?_⟩
    rw [Ideal.liftRound_top, max_eq_right le_top, min_eq_left le_top]
    norm_num
  | coe r =>
    have e : min ((15 : ℝ) : EReal) (max 0 (Ideal.liftRound Int.floor (r : EReal)))
        = ((min (15 : ℝ) (max 0 ((⌊r⌋ : ℤ) : ℝ)) : ℝ) : EReal) := by
      rw [Ideal.liftRound_coe, ← EReal.coe_zero, ← EReal.coe_strictMono.monotone.map_max,
        ← EReal.coe_strictMono.monotone.map_min]
    refine ⟨(min 15 (max 0 ⌊r⌋)).toNat, by omega, ?_⟩
    rw [e]
    have h : ((min 15 (max 0 ⌊r⌋)).toNat : ℤ) = min 15 (max 0 ⌊r⌋) := Int.toNat_of_nonneg (by omega)
    have h' : (((min 15 (max 0 ⌊r⌋)).toNat : ℤ) : ℝ) = ((min 15 (max 0 ⌊r⌋) : ℤ) : ℝ) := by rw [h]
    push_cast at h'
    rw [h']

/-- The code of any entry is a natural number at most 15. -/
theorem code_nat (a : EReal) : ∃ n : ℕ, n ≤ 15 ∧ code a = ((n : ℝ) : EReal) := clip_nat _

/-- A code stored in four bits and read back is the code. -/
theorem stored_code (a : EReal) : (((Ideal.fptoui 4 (code a)).toNat : ℝ) : EReal) = code a := by
  obtain ⟨n, hn, h⟩ := code_nat a
  rw [h]
  have e : Ideal.fptoui 4 ((n : ℝ) : EReal) = BitVec.ofNat 4 n := by
    rw [Ideal.fptoui, Ideal.toIntClamped_coe, if_pos (Nat.cast_nonneg n)]
    rw [Int.floor_natCast]
    have h4 : max 0 (min (((2 ^ 4 : ℕ) : ℤ) - 1) (n : ℤ)) = (n : ℤ) := by omega
    rw [h4, BitVec.ofInt_natCast]
  rw [e, BitVec.toNat_ofNat, Nat.mod_eq_of_lt (by omega)]

/-! ## The midpoint product split -/

/-- A sum times a nonnegative real is the sum of the products, whatever the terms are. -/
theorem sum_mul_real {n : ℕ} (f : Fin n → EReal) (c : ℝ) (hc : 0 ≤ c) :
    (∑ k, f k) * (c : EReal) = ∑ k, f k * (c : EReal) := by
  have h : ∀ s : Finset (Fin n), (∑ k ∈ s, f k) * (c : EReal) = ∑ k ∈ s, f k * (c : EReal) := by
    intro s
    induction s using Finset.cons_induction with
    | empty => simp
    | cons a s ha ih =>
      rw [Finset.sum_cons, Finset.sum_cons, ← ih]
      exact EReal.right_distrib_of_nonneg_of_ne_top (EReal.coe_nonneg.mpr hc) (EReal.coe_ne_top c) _ _
  exact h _

/-- One term: the midpoint of a code's sixteenth times a value. -/
theorem midpoint_mul (q : ℝ) (hq : 0 ≤ q) (s : EReal) :
    Ideal.div ((q : EReal) + ((1 / 2 : ℝ) : EReal)) ((16 : ℝ) : EReal) * s
      = (q : EReal) * s * ((1 / 16 : ℝ) : EReal) + s * ((1 / 32 : ℝ) : EReal) := by
  rw [Ideal.div_coe (by norm_num), ← EReal.coe_add, ← EReal.coe_mul]
  have e : (q + 1 / 2) * (1 / 16) = q * (1 / 16) + (1 / 32 : ℝ) := by ring
  rw [e, EReal.coe_add, EReal.right_distrib_of_nonneg (by exact_mod_cast (by positivity : 0 ≤ q * (1 / 16)))
    (by exact_mod_cast (by positivity : (0 : ℝ) ≤ 1 / 32)), EReal.coe_mul, mul_right_comm, mul_comm s]

/-- The product of a row of midpoints with a column: the product with the codes over sixteen, and the column's sum over
    thirty-two. No entry of the row or of the column need be finite. -/
theorem midpoint_sum {n : ℕ} (a s : Fin n → EReal) :
    ∑ k, Ideal.div (code (a k) + ((1 / 2 : ℝ) : EReal)) ((16 : ℝ) : EReal) * s k
      = (∑ k, code (a k) * s k) * ((1 / 16 : ℝ) : EReal) + (∑ k, s k) * ((1 / 32 : ℝ) : EReal) := by
  rw [sum_mul_real _ _ (by norm_num), sum_mul_real _ _ (by norm_num), ← Finset.sum_add_distrib]
  refine Finset.sum_congr rfl fun k _ => ?_
  obtain ⟨m, -, h⟩ := code_nat (a k)
  rw [h]
  exact midpoint_mul _ (Nat.cast_nonneg m) _

end Cert.Codes

end
-- ==== Proof.Bodies.lean ====
/-
  What one block of each region computes: the value every body stores, read at an index, in terms of the blocks it loads.
-/
module

public import proofs.«01_k».proof.Proof.Gen.KernelIdeal.Skeleton
public import proofs.«01_k».proof.Proof.Codes
public import Idealize.ShloMosaic.Lib.Pointwise

@[expose] public section

set_option maxRecDepth 16384

noncomputable section

namespace Cert.KernelIdeal.Bodies

open Cert.KernelIdeal Cert.KernelIdeal.Gen Cert.Codes
open Idealize.ShloMosaic Idealize.ShloMosaic.TcCoe

/-- The first body stores the product of the features and the first weights. -/
theorem body0 (x : Vec Ideal S10000x128 .f32) (w : Vec Ideal S128x128 .f32) (y : S10000x128.Idx) :
    k0_pay1 (F := Ideal) x w y = ∑ k : Fin 128, x (ix2 (y 0) k) * w (ix2 k (y 1)) := by
  pointwise [k0_pay1]

/-- The second body's first store: the block's rows of the adjacency times the first product, the bias added, negative
    entries set to zero, times the second weights. The narrowing of the stored format is the identity here. -/
theorem body1 (a : Vec Ideal S400x10000 .f32) (s : Vec Ideal S10000x128 .f32) (b : Vec Ideal S1x128 .f32)
    (w : Vec Ideal S128x128 .f32) (y : S400x128.Idx) :
    k1_pay1 (F := Ideal) a s b w y
      = ∑ j : Fin 128, max ((∑ k : Fin 10000, a (ix2 (y 0) k) * s (ix2 k j)) + b (ix2 0 j)) 0 * w (ix2 j (y 1)) := by
  pointwise [k1_pay1]

/-- The second body's second store: each entry's code as a four-bit word. -/
theorem body1_codes (a : Vec Ideal S400x10000 .f32) (y : S400x10000.Idx) :
    k1_pay2 (F := Ideal) a y = Ideal.fptoui 4 (code (a y)) := by
  pointwise [k1_pay2]
  rw [word_fifteen, word_sixteen]
  rfl

/-- The third body stores the codes' product over sixteen, plus the column sums over thirty-two, plus the bias. -/
theorem body2 (q : Vec Ideal S1000x10000 .i4) (s : Vec Ideal S10000x128 .bf16) (b : Vec Ideal S1x128 .f32) (y : S1000x128.Idx) :
    k2_pay1 (F := Ideal) q s b y
      = (∑ k : Fin 10000, (((q (ix2 (y 0) k)).toNat : ℝ) : EReal) * s (ix2 k (y 1))) * ((1 / 16 : ℝ) : EReal)
        + (∑ k : Fin 10000, s (ix2 k (y 1))) * ((1 / 32 : ℝ) : EReal) + b (ix2 0 (y 1)) := by
  pointwise [k2_pay1]
  rw [word_sixteenth, word_thirtysecond]
  rfl

end Cert.KernelIdeal.Bodies

end
-- ==== Proof.Network.lean ====
/-
  The two-layer network as functions of whole arrays on the extended reals: what the kernel's regions are shown to hold,
  what the reference is shown to compute, and the one equation between them.
-/
module

public import proofs.«01_k».proof.Proof.Codes
public import Idealize.ShloMosaic.Lib.Pointwise

@[expose] public section

noncomputable section

namespace Cert.Network

open Idealize.ShloMosaic Cert.Codes

/-- The indices of a 10000 × 128 array (features, hidden rows, the result). -/
abbrev Rows := (⟨2, ![10000, 128]⟩ : Shape).Idx
/-- The indices of the 10000 × 10000 adjacency. -/
abbrev Edges := (⟨2, ![10000, 10000]⟩ : Shape).Idx
/-- The indices of a 128 × 128 weight. -/
abbrev Weights := (⟨2, ![128, 128]⟩ : Shape).Idx

/-- The indices of a bias as one row of 128. -/
abbrev Bias := (⟨2, ![1, 128]⟩ : Shape).Idx

/-- The features times the first weights. -/
def support1 (z : Rows → EReal) (w : Weights → EReal) : Rows → EReal := fun i =>
  ∑ k : Fin 128, z (ix2 (i 0) k) * w (ix2 k (i 1))

/-- The first layer over the exact adjacency, its bias added and its negative entries set to zero, times the second weights. -/
def support2 (a : Edges → EReal) (s : Rows → EReal) (b : Bias → EReal) (w : Weights → EReal) : Rows → EReal := fun i =>
  ∑ j : Fin 128, max ((∑ k : Fin 10000, a (ix2 (i 0) k) * s (ix2 k j)) + b (ix2 0 j)) 0 * w (ix2 j (i 1))

/-- The four-bit array the kernel stores: the code of every entry of the adjacency, converted to a four-bit word. -/
def stored (a : Edges → EReal) : Edges → BitVec 4 := fun i => Ideal.fptoui 4 (code (a i))

/-- The second layer as the kernel computes it from the stored codes: their product over sixteen, plus each column's sum
    over thirty-two, plus the bias. -/
def fromCodes (q : Edges → BitVec 4) (s : Rows → EReal) (b : Bias → EReal) : Rows → EReal := fun i =>
  (∑ k : Fin 10000, (((q (ix2 (i 0) k)).toNat : ℝ) : EReal) * s (ix2 k (i 1))) * ((1 / 16 : ℝ) : EReal)
    + (∑ k : Fin 10000, s (ix2 k (i 1))) * ((1 / 32 : ℝ) : EReal) + b (ix2 0 (i 1))

/-- The second layer as the reference states it: the product with the adjacency rounded to the midpoints
    `(code + 1/2) / 16`, plus the bias. -/
def fromMidpoints (a : Edges → EReal) (s : Rows → EReal) (b : Bias → EReal) : Rows → EReal := fun i =>
  (∑ k : Fin 10000, Ideal.div (code (a (ix2 (i 0) k)) + ((1 / 2 : ℝ) : EReal)) ((16 : ℝ) : EReal) * s (ix2 k (i 1))) + b (ix2 0 (i 1))

/-- A vector of 128 as the one row of a 1 × 128 array. -/
def row (b : (⟨1, ![128]⟩ : Shape).Idx → EReal) : Bias → EReal := fun y => b (ix1 (y 1))

/-- The network: the first layer over the exact adjacency, the second over the adjacency rounded to midpoints. -/
def network (z : Rows → EReal) (a : Edges → EReal) (w1 : Weights → EReal) (b1 : (⟨1, ![128]⟩ : Shape).Idx → EReal)
    (w2 : Weights → EReal) (b2 : (⟨1, ![128]⟩ : Shape).Idx → EReal) : Rows → EReal :=
  fromMidpoints a (support2 a (support1 z w1) (row b1) w2) (row b2)

/-- The two second layers are the same function of the adjacency, the hidden rows and the bias, for every value of each:
    the stored word reads back as the code, and the sum of the midpoints' products splits. -/
theorem fromCodes_stored (a : Edges → EReal) (s : Rows → EReal) (b : Bias → EReal) :
    fromCodes (stored a) s b = fromMidpoints a s b := by
  funext i
  unfold fromCodes fromMidpoints stored
  simp only [stored_code]
  rw [midpoint_sum (fun k => a (ix2 (i 0) k)) fun k => s (ix2 k (i 1))]

end Cert.Network

end
-- ==== Proof.Layers.lean ====
/-
  What each region's output arrays hold when the region ends, as functions of whole arrays: the blocks the grid points
  write back tile each array, and each is its block of one function of the arrays the region was entered with.
-/
module

public import proofs.«01_k».proof.Proof.Gen.KernelIdeal.Frame
public import proofs.«01_k».proof.Proof.Bodies
public import proofs.«01_k».proof.Proof.Network
public import Idealize.ShloMosaic.Lib.Pipeline.ValueKit

@[expose] public section

set_option maxRecDepth 16384

noncomputable section

namespace Cert.KernelIdeal.Layers

open Cert.KernelIdeal Cert.KernelIdeal.Gen Cert.KernelIdeal.Bodies Cert.Codes Cert.Network
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The first region (one point, whole arrays) -/

/-- The first region stages the features whole. -/
theorem e0_0 : ∀ t : Fin grid0.N, win0_0.index t = ![0, 0] := by decide +kernel
/-- The first region stages the first weights whole. -/
theorem e0_1 : ∀ t : Fin grid0.N, win0_1.index t = ![0, 0] := by decide +kernel
/-- The first region writes its output array whole. -/
theorem e0_2 : ∀ t : Fin grid0.N, win0_2.index t = ![0, 0] := by decide +kernel

/-- After the first region its output array holds the features times the first weights. -/
theorem region0 : (dat0 V c).arrAt 2 cfg0.N = support1 (V c main_arg0) (V c main_arg2) := by
  refine (dat0 V c).arrAt_eq_of_covers 2 _ (by decide +kernel) fun t _ y => ?_
  blk_simp
  rw [after0_2]
  frame_out
  rw [body0]
  unfold support1
  blk_point [iblk0, e0_0 t, e0_1 t, e0_2 t]

/-! ## The second region (25 points of 400 rows) -/

/-- A point of the second region stages its own 400 rows of the adjacency. -/
theorem e1_0 : ∀ t : Fin grid1.N, win1_0.index t = ![(grid1.coords t 0).val, 0] := by decide +kernel
/-- A point of the second region stages the first product whole. -/
theorem e1_1 : ∀ t : Fin grid1.N, win1_1.index t = ![0, 0] := by decide +kernel
/-- A point of the second region stages the first bias whole. -/
theorem e1_2 : ∀ t : Fin grid1.N, win1_2.index t = ![0, 0] := by decide +kernel
/-- A point of the second region stages the second weights whole. -/
theorem e1_3 : ∀ t : Fin grid1.N, win1_3.index t = ![0, 0] := by decide +kernel
/-- A point of the second region writes its own 400 rows of the second product. -/
theorem e1_4 : ∀ t : Fin grid1.N, win1_4.index t = ![(grid1.coords t 0).val, 0] := by decide +kernel
/-- A point of the second region writes its own 400 rows of the codes. -/
theorem e1_5 : ∀ t : Fin grid1.N, win1_5.index t = ![(grid1.coords t 0).val, 0] := by decide +kernel

/-- After the second region its first output array holds the hidden rows times the second weights. -/
theorem region1 : (dat1 V c).arrAt 4 cfg1.N
    = support2 (V c main_arg1) (V c main_v2) (V c main_v0) (V c main_arg4) := by
  refine (dat1 V c).arrAt_eq_of_covers 4 _ (by decide +kernel) fun t _ y => ?_
  blk_simp
  rw [after1_4]
  frame_out
  rw [body1]
  unfold support2
  blk_point [iblk1, e1_0 t, e1_1 t, e1_2 t, e1_3 t, e1_4 t]

/-- After the second region its second output array holds the code of every entry of the adjacency. -/
theorem region1_codes : (dat1 V c).arrAt 5 cfg1.N = stored (V c main_arg1) := by
  refine (dat1 V c).arrAt_eq_of_covers 5 _ (by decide +kernel) fun t _ y => ?_
  blk_simp
  rw [after1_5]
  frame_out
  rw [body1_codes]
  unfold stored
  blk_point [iblk1, e1_0 t, e1_5 t]

/-! ## The third region (10 points of 1000 rows) -/

/-- A point of the third region stages its own 1000 rows of the codes. -/
theorem e2_0 : ∀ t : Fin grid2.N, win2_0.index t = ![(grid2.coords t 0).val, 0] := by decide +kernel
/-- A point of the third region stages the second product whole. -/
theorem e2_1 : ∀ t : Fin grid2.N, win2_1.index t = ![0, 0] := by decide +kernel
/-- A point of the third region stages the second bias whole. -/
theorem e2_2 : ∀ t : Fin grid2.N, win2_2.index t = ![0, 0] := by decide +kernel
/-- A point of the third region writes its own 1000 rows of the result. -/
theorem e2_3 : ∀ t : Fin grid2.N, win2_3.index t = ![(grid2.coords t 0).val, 0] := by decide +kernel

/-- After the third region the result array holds the second layer computed from the codes. -/
theorem region2 : (dat2 V c).arrAt 3 cfg2.N
    = fromCodes (V c main_v3_1) (V c main_v3_0) (V c main_v1) := by
  refine (dat2 V c).arrAt_eq_of_covers 3 _ (by decide +kernel) fun t _ y => ?_
  blk_simp
  rw [after2_3]
  frame_out
  rw [body2]
  unfold fromCodes
  blk_point [iblk2, e2_0 t, e2_1 t, e2_2 t, e2_3 t]

end Cert.KernelIdeal.Layers

end
-- ==== Proof.Result.lean ====
/-
  The result array at the end of the kernel's run, as a function of the argument arrays: the three regions' arrays
  followed from the launch, each region entered with what the one before left.
-/
module

public import proofs.«01_k».proof.Proof.Layers
public import Idealize.ShloMosaic.Lib.StableHlo.ReadAt

@[expose] public section

set_option maxRecDepth 16384

noncomputable section

namespace Cert.KernelIdeal.Result

open Cert.KernelIdeal Cert.KernelIdeal.Gen Cert.KernelIdeal.Layers Cert.Network
open Idealize.ShloMosaic Idealize.ShloMosaic.TcCoe Idealize.SL.Sem

variable (m : (ℓ : Loc nD τ sig) → Buf (Elt Ideal) ℓ) (ρ : Dev nD → PrngReg) (c : Dev nD)

/-- The first bias, reshaped to one row before the first region. -/
theorem bias1 : V1 m ρ c main_v0 = row (m ((c : Thread nD τ).loc main_arg3)) := by
  funext y
  unfold row
  show StableHlo.after hostOps0 (W0 m ρ c) (Proc.devRef .tc main_v0) y = _
  after_reads_at

/-- The second bias, reshaped to one row before the first region. -/
theorem bias2 : V1 m ρ c main_v1 = row (m ((c : Thread nD τ).loc main_arg5)) := by
  funext y
  unfold row
  show StableHlo.after hostOps0 (W0 m ρ c) (Proc.devRef .tc main_v1) y = _
  after_reads_at

/-- At the second region's entry: the first product. -/
theorem entry_support1 : V2 m ρ c main_v2
    = support1 (m ((c : Thread nD τ).loc main_arg0)) (m ((c : Thread nD τ).loc main_arg2)) := by
  refine (W2_arr m ρ c 2).trans ((region0 (V1 m ρ) c).trans ?_)
  rw [show V1 m ρ c main_arg0 = _ from W1_args m ρ c main_arg0 (by decide),
    show V1 m ρ c main_arg2 = _ from W1_args m ρ c main_arg2 (by decide)]

/-- At the third region's entry: the hidden rows times the second weights. -/
theorem entry_support2 : V3 m ρ c main_v3_0
    = support2 (m ((c : Thread nD τ).loc main_arg1))
        (support1 (m ((c : Thread nD τ).loc main_arg0)) (m ((c : Thread nD τ).loc main_arg2)))
        (row (m ((c : Thread nD τ).loc main_arg3))) (m ((c : Thread nD τ).loc main_arg4)) := by
  refine (W3_arr m ρ c 4).trans ((region1 (V2 m ρ) c).trans ?_)
  rw [show V2 m ρ c main_arg1 = _ from W2_args m ρ c main_arg1 (by decide),
    show V2 m ρ c main_arg4 = _ from W2_args m ρ c main_arg4 (by decide), entry_support1,
    show V2 m ρ c main_v0 = V1 m ρ c main_v0 from W2_of m ρ c main_v0 (by decide), bias1]

/-- At the third region's entry: the codes of the adjacency. -/
theorem entry_codes : V3 m ρ c main_v3_1 = stored (m ((c : Thread nD τ).loc main_arg1)) := by
  refine (W3_arr m ρ c 5).trans ((region1_codes (V2 m ρ) c).trans ?_)
  rw [show V2 m ρ c main_arg1 = _ from W2_args m ρ c main_arg1 (by decide)]

/-- At the end of the run the result array holds the network of the argument arrays as launched. -/
theorem result : W4 m ρ c (Proc.devRef .tc main_v4)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 3).trans ((region2 (V3 m ρ) c).trans ?_)
  rw [entry_codes, entry_support2,
    show V3 m ρ c main_v1 = V1 m ρ c main_v1 from
      (W3_of m ρ c main_v1 (by decide)).trans (W2_of m ρ c main_v1 (by decide)),
    bias2, fromCodes_stored, network]

end Cert.KernelIdeal.Result

end
-- ==== Proof.Ref.lean ====
/-
  What the reference computes: its operations' composed term, read at an index, is the network over the adjacency rounded
  to midpoints.
-/
module

public import proofs.«01_k».proof.Proof.Gen.ReferenceIdeal.Run
public import proofs.«01_k».proof.Proof.Network

@[expose] public section

set_option maxRecDepth 16384

noncomputable section

namespace Cert.ReferenceIdeal.Ref

open Cert.ReferenceIdeal Cert.ReferenceIdeal.Gen Cert.Codes Cert.Network
open Idealize.ShloMosaic Idealize.ShloMosaic.TcCoe Idealize.SL.Sem

/-- Every run of the reference ends with its result array at the network of the argument arrays, and with each
    argument array unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans (funext fun i => ?_), (h c).2⟩)
    (Cert.ReferenceIdeal.Value.run m ρ)
  clear h
  simp only [id_eq]
  pointwise
  rw [word_fifteen, word_sixteen, word_half]
  rfl

end Cert.ReferenceIdeal.Ref

end
-- ==== Proof.lean ====
/-
  The certificate of `Cert.Claim`: both frames of the kernel and the reference's frame with the counters at zero, the
  preservation, and the equation of the kernel's result with the reference's on the extended reals, from the run of each.
-/
module

public import proofs.«01_k».proof.Defs
public import proofs.«01_k».proof.Proof.Gen.Kernel.Frame
public import proofs.«01_k».proof.Proof.Held
public import proofs.«01_k».proof.Proof.Result
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel's result is the reference's, from any memories that agree on the argument arrays: both are the network of
    the same arguments. -/
theorem equal [Cert.KernelIdeal.Facts] [Cert.ReferenceIdeal.Facts] : Cert.algebraic_KernelIdeal_ReferenceIdeal := by
  intro m g m' g' _ hargs
  refine ⟨fun c => Cert.KernelIdeal.Gen.W4 m g c (Proc.devRef .tc Cert.KernelIdeal.main_v4),
    Cert.KernelIdeal.Held.run m g,
    (θ_run Cert.ReferenceIdeal.defs _ _).mono (fun r h c => ⟨(h c).1.trans ?_, (h c).2⟩) (Cert.ReferenceIdeal.Ref.run m' g')⟩
  obtain ⟨h0, h1, h2, h3, h4, h5⟩ := hargs c
  show _ = Cert.KernelIdeal.Gen.W4 m g c (Proc.devRef .tc Cert.KernelIdeal.main_v4)
  rw [Cert.KernelIdeal.Result.result m g c, h0, h1, h2, h3, h4, h5]

/-- The five claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, sem_eq_zero_of_no_sems rfl r.2⟩) (Cert.ReferenceIdeal.Ref.run m ρ),
  trivial,
  equal⟩

end Cert.Proof

end
